-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S8 : Shape := ⟨1, ![8]⟩
abbrev S8x1x64x512 : Shape := ⟨4, ![8, 1, 64, 512]⟩
abbrev S8x1x64x64 : Shape := ⟨4, ![8, 1, 64, 64]⟩
abbrev S8x1x512 : Shape := ⟨3, ![8, 1, 512]⟩
abbrev S8x1x64 : Shape := ⟨3, ![8, 1, 64]⟩
abbrev S8x512x512 : Shape := ⟨3, ![8, 512, 512]⟩
abbrev S8x4x512 : Shape := ⟨3, ![8, 4, 512]⟩
abbrev S8x32x512 : Shape := ⟨3, ![8, 32, 512]⟩
abbrev S_ : Shape := ⟨0, ![]⟩
abbrev S8x1x1 : Shape := ⟨3, ![8, 1, 1]⟩
abbrev S8x512x1 : Shape := ⟨3, ![8, 512, 1]⟩

class Facts : Prop where
  bcast_S_S8x1x512 : S_.BroadcastsInDim S8x1x512 (![] : Fin 0 → Fin S8x1x512.rank)
  bcast_S8_S8x1x1_0 : S8.BroadcastsInDim S8x1x1 (![0] : Fin 1 → Fin S8x1x1.rank)
  bcast_S8x1x1_S8x1x512_0_1_2 : S8x1x1.BroadcastsInDim S8x1x512 (![0, 1, 2] : Fin 3 → Fin S8x1x512.rank)
  bcast_S_S8x32x512 : S_.BroadcastsInDim S8x32x512 (![] : Fin 0 → Fin S8x32x512.rank)
  bitsLt_bf16_f32 : FTy.bits .bf16 < FTy.bits .f32
  bcast_S_S8x1x64x512 : S_.BroadcastsInDim S8x1x64x512 (![] : Fin 0 → Fin S8x1x64x512.rank)
  bcast_S_S8x1x64x64 : S_.BroadcastsInDim S8x1x64x64 (![] : Fin 0 → Fin S8x1x64x64.rank)
  bcast_S_S8x1x64 : S_.BroadcastsInDim S8x1x64 (![] : Fin 0 → Fin S8x1x64.rank)
  bcast_S_S8x512x512 : S_.BroadcastsInDim S8x512x512 (![] : Fin 0 → Fin S8x512x512.rank)
  transposes_S8x1x512_S8x512x1_0_2_1 : S8x1x512.Transposes [0, 2, 1] S8x512x1
  bcast_S8x512x1_S8x512x512_0_1_2 : S8x512x1.BroadcastsInDim S8x512x512 (![0, 1, 2] : Fin 3 → Fin S8x512x512.rank)
  bcast_S_S8x4x512 : S_.BroadcastsInDim S8x4x512 (![] : Fin 0 → Fin S8x4x512.rank)
  bcast_S8x1x512_S8x4x512_0_1_2 : S8x1x512.BroadcastsInDim S8x4x512 (![0, 1, 2] : Fin 3 → Fin S8x4x512.rank)
  bcast_S8x1x512_S8x32x512_0_1_2 : S8x1x512.BroadcastsInDim S8x32x512 (![0, 1, 2] : Fin 3 → Fin S8x32x512.rank)

variable [Facts]

def fn_part3 {F : FTy → Type} [FloatOps F] (main_v6 : IVec S8x1x512 1) (main_v16 : IVec S8x1x64x512 1) (main_v22 : IVec S8x1x64x64 1) (main_v28 : IVec S8x1x512 1) (main_v34 : IVec S8x1x64 1) (main_v42 : IVec S8x512x512 1) (main_v49 : IVec S8x4x512 1) (main_v54 : IVec S8x32x512 1) : IVec S8x1x64x512 1 × IVec S8x1x64x64 1 × IVec S8x1x512 1 × IVec S8x1x64 1 × IVec S8x512x512 1 × IVec S8x4x512 1 × IVec S8x32x512 1 :=
  let main_v55 : IVec S8x32x512 1 := broadcastInDim S8x32x512 ![0, 1, 2] bcast_S8x1x512_S8x32x512_0_1_2 main_v6
  let main_v56 : IVec S8x32x512 1 := ori main_v54 main_v55
  (main_v16, main_v22, main_v28, main_v34, main_v42, main_v49, main_v56)

def fn_part2 {F : FTy → Type} [FloatOps F] (main_arg5 : IVec S8x512x512 8) (main_arg6 : FVec F S8x4x512 .f32) (main_v6 : IVec S8x1x512 1) (main_v8 : IVec S8x32x512 32) (main_v10 : IVec S8x32x512 32) (main_v16 : IVec S8x1x64x512 1) (main_v22 : IVec S8x1x64x64 1) (main_v28 : IVec S8x1x512 1) (main_v34 : IVec S8x1x64 1) (main_v35 : IVec S8x512x512 8) : IVec S8x1x64x512 1 × IVec S8x1x64x64 1 × IVec S8x1x512 1 × IVec S8x1x64 1 × IVec S8x512x512 1 × IVec S8x4x512 1 × IVec S8x32x512 1 :=
  let main_v36 : IVec S8x512x512 1 := cmpi .ne main_arg5 main_v35
  let main_c_10 : IVec S_ 8 := constantI S_ 8 255#8
  let main_v37 : IVec S8x512x512 8 := broadcastInDim S8x512x512 ![] bcast_S_S8x512x512 main_c_10
  let main_v38 : IVec S8x512x512 1 := cmpi .ne main_arg5 main_v37
  let main_v39 : IVec S8x512x512 1 := andi main_v36 main_v38
  let main_v40 : IVec S8x512x1 1 := (transpose S8x512x1 [0, 2, 1] · transposes_S8x1x512_S8x512x1_0_2_1) main_v6
  let main_v41 : IVec S8x512x512 1 := broadcastInDim S8x512x512 ![0, 1, 2] bcast_S8x512x1_S8x512x512_0_1_2 main_v40
  let main_v42 : IVec S8x512x512 1 := ori main_v39 main_v41
  let main_cst_11 : FVec F S_ .f32 := constant S_ .f32 0xFF800000#32
  let main_v43 : FVec F S8x4x512 .f32 := broadcastInDim S8x4x512 ![] bcast_S_S8x4x512 main_cst_11
  let main_v44 : IVec S8x4x512 1 := cmpf .ogt main_arg6 main_v43
  let main_cst_12 : FVec F S_ .f32 := constant S_ .f32 0x7F800000#32
  let main_v45 : FVec F S8x4x512 .f32 := broadcastInDim S8x4x512 ![] bcast_S_S8x4x512 main_cst_12
  let main_v46 : IVec S8x4x512 1 := cmpf .olt main_arg6 main_v45
  let main_v47 : IVec S8x4x512 1 := andi main_v44 main_v46
  let main_v48 : IVec S8x4x512 1 := broadcastInDim S8x4x512 ![0, 1, 2] bcast_S8x1x512_S8x4x512_0_1_2 main_v6
  let main_v49 : IVec S8x4x512 1 := ori main_v47 main_v48
  let main_c_13 : IVec S_ 32 := constantI S_ 32 32640#32
  let main_v50 : IVec S8x32x512 32 := broadcastInDim S8x32x512 ![] bcast_S_S8x32x512 main_c_13
  let main_v51 : IVec S8x32x512 1 := cmpi .ne main_v8 main_v50
  let main_c_14 : IVec S_ 32 := constantI S_ 32 2139095040#32
  let main_v52 : IVec S8x32x512 32 := broadcastInDim S8x32x512 ![] bcast_S_S8x32x512 main_c_14
  let main_v53 : IVec S8x32x512 1 := cmpi .ne main_v10 main_v52
  let main_v54 : IVec S8x32x512 1 := andi main_v51 main_v53
  fn_part3 (F := F) main_v6 main_v16 main_v22 main_v28 main_v34 main_v42 main_v49 main_v54

def fn_part1 {F : FTy → Type} [FloatOps F] (main_arg3 : FVec F S8x1x512 .bf16) (main_arg4 : FVec F S8x1x64 .bf16) (main_arg5 : IVec S8x512x512 8) (main_arg6 : FVec F S8x4x512 .f32) (main_v6 : IVec S8x1x512 1) (main_v8 : IVec S8x32x512 32) (main_v10 : IVec S8x32x512 32) (main_v16 : IVec S8x1x64x512 1) (main_v17 : FVec F S8x1x64x64 .f32) (main_cst_3 : FVec F S_ .f32) : IVec S8x1x64x512 1 × IVec S8x1x64x64 1 × IVec S8x1x512 1 × IVec S8x1x64 1 × IVec S8x512x512 1 × IVec S8x4x512 1 × IVec S8x32x512 1 :=
  let main_v18 : FVec F S8x1x64x64 .f32 := broadcastInDim S8x1x64x64 ![] bcast_S_S8x1x64x64 main_cst_3
  let main_v19 : IVec S8x1x64x64 1 := cmpf .ogt main_v17 main_v18
  let main_cst_4 : FVec F S_ .f32 := constant S_ .f32 0x7F800000#32
  let main_v20 : FVec F S8x1x64x64 .f32 := broadcastInDim S8x1x64x64 ![] bcast_S_S8x1x64x64 main_cst_4
  let main_v21 : IVec S8x1x64x64 1 := cmpf .olt main_v17 main_v20
  let main_v22 : IVec S8x1x64x64 1 := andi main_v19 main_v21
  let main_v23 : FVec F S8x1x512 .f32 := (extf .f32 · bitsLt_bf16_f32) main_arg3
  let main_cst_5 : FVec F S_ .f32 := constant S_ .f32 0xFF800000#32
  let main_v24 : FVec F S8x1x512 .f32 := broadcastInDim S8x1x512 ![] bcast_S_S8x1x512 main_cst_5
  let main_v25 : IVec S8x1x512 1 := cmpf .ogt main_v23 main_v24
  let main_cst_6 : FVec F S_ .f32 := constant S_ .f32 0x7F800000#32
  let main_v26 : FVec F S8x1x512 .f32 := broadcastInDim S8x1x512 ![] bcast_S_S8x1x512 main_cst_6
  let main_v27 : IVec S8x1x512 1 := cmpf .olt main_v23 main_v26
  let main_v28 : IVec S8x1x512 1 := andi main_v25 main_v27
  let main_v29 : FVec F S8x1x64 .f32 := (extf .f32 · bitsLt_bf16_f32) main_arg4
  let main_cst_7 : FVec F S_ .f32 := constant S_ .f32 0xFF800000#32
  let main_v30 : FVec F S8x1x64 .f32 := broadcastInDim S8x1x64 ![] bcast_S_S8x1x64 main_cst_7
  let main_v31 : IVec S8x1x64 1 := cmpf .ogt main_v29 main_v30
  let main_cst_8 : FVec F S_ .f32 := constant S_ .f32 0x7F800000#32
  let main_v32 : FVec F S8x1x64 .f32 := broadcastInDim S8x1x64 ![] bcast_S_S8x1x64 main_cst_8
  let main_v33 : IVec S8x1x64 1 := cmpf .olt main_v29 main_v32
  let main_v34 : IVec S8x1x64 1 := andi main_v31 main_v33
  let main_c_9 : IVec S_ 8 := constantI S_ 8 127#8
  let main_v35 : IVec S8x512x512 8 := broadcastInDim S8x512x512 ![] bcast_S_S8x512x512 main_c_9
  fn_part2 (F := F) main_arg5 main_arg6 main_v6 main_v8 main_v10 main_v16 main_v22 main_v28 main_v34 main_v35

def fn {F : FTy → Type} [FloatOps F] (main_arg0 : IVec S8 32) (main_arg1 : FVec F S8x1x64x512 .bf16) (main_arg2 : FVec F S8x1x64x64 .bf16) (main_arg3 : FVec F S8x1x512 .bf16) (main_arg4 : FVec F S8x1x64 .bf16) (main_arg5 : IVec S8x512x512 8) (main_arg6 : FVec F S8x4x512 .f32) (main_arg7 : IVec S8x32x512 32) (main_arg8 : IVec S8x1x512 32) : IVec S8x1x64x512 1 × IVec S8x1x64x64 1 × IVec S8x1x512 1 × IVec S8x1x64 1 × IVec S8x512x512 1 × IVec S8x4x512 1 × IVec S8x32x512 1 :=
  let main_c : IVec S_ 32 := constantI S_ 32 0#32
  let main_v0 : IVec S8x1x512 32 := broadcastInDim S8x1x512 ![] bcast_S_S8x1x512 main_c
  let main_v1 : IVec S8x1x512 1 := cmpi .sge main_arg8 main_v0
  let main_v2 : IVec S8x1x1 32 := broadcastInDim S8x1x1 ![0] bcast_S8_S8x1x1_0 main_arg0
  let main_v3 : IVec S8x1x512 32 := broadcastInDim S8x1x512 ![0, 1, 2] bcast_S8x1x1_S8x1x512_0_1_2 main_v2
  let main_v4 : IVec S8x1x512 1 := cmpi .slt main_arg8 main_v3
  let main_v5 : IVec S8x1x512 1 := andi main_v1 main_v4
  let main_v6 : IVec S8x1x512 1 := noti main_v5
  let main_c_0 : IVec S_ 32 := constantI S_ 32 32640#32
  let main_v7 : IVec S8x32x512 32 := broadcastInDim S8x32x512 ![] bcast_S_S8x32x512 main_c_0
  let main_v8 : IVec S8x32x512 32 := andi main_arg7 main_v7
  let main_c_1 : IVec S_ 32 := constantI S_ 32 2139095040#32
  let main_v9 : IVec S8x32x512 32 := broadcastInDim S8x32x512 ![] bcast_S_S8x32x512 main_c_1
  let main_v10 : IVec S8x32x512 32 := andi main_arg7 main_v9
  let main_v11 : FVec F S8x1x64x512 .f32 := (extf .f32 · bitsLt_bf16_f32) main_arg1
  let main_cst : FVec F S_ .f32 := constant S_ .f32 0xFF800000#32
  let main_v12 : FVec F S8x1x64x512 .f32 := broadcastInDim S8x1x64x512 ![] bcast_S_S8x1x64x512 main_cst
  let main_v13 : IVec S8x1x64x512 1 := cmpf .ogt main_v11 main_v12
  let main_cst_2 : FVec F S_ .f32 := constant S_ .f32 0x7F800000#32
  let main_v14 : FVec F S8x1x64x512 .f32 := broadcastInDim S8x1x64x512 ![] bcast_S_S8x1x64x512 main_cst_2
  let main_v15 : IVec S8x1x64x512 1 := cmpf .olt main_v11 main_v14
  let main_v16 : IVec S8x1x64x512 1 := andi main_v13 main_v15
  let main_v17 : FVec F S8x1x64x64 .f32 := (extf .f32 · bitsLt_bf16_f32) main_arg2
  let main_cst_3 : FVec F S_ .f32 := constant S_ .f32 0xFF800000#32
  fn_part1 (F := F) main_arg3 main_arg4 main_arg5 main_arg6 main_v6 main_v8 main_v10 main_v16 main_v17 main_cst_3
-- ==== Kernel.lean ====
abbrev S8 : Shape := ⟨1, ![8]⟩
abbrev S8x1x64x512 : Shape := ⟨4, ![8, 1, 64, 512]⟩
abbrev S8x1x64x64 : Shape := ⟨4, ![8, 1, 64, 64]⟩
abbrev S8x1x512 : Shape := ⟨3, ![8, 1, 512]⟩
abbrev S8x1x64 : Shape := ⟨3, ![8, 1, 64]⟩
abbrev S8x512x512 : Shape := ⟨3, ![8, 512, 512]⟩
abbrev S8x4x512 : Shape := ⟨3, ![8, 4, 512]⟩
abbrev S8x32x512 : Shape := ⟨3, ![8, 32, 512]⟩
abbrev S1x1x64x512 : Shape := ⟨4, ![1, 1, 64, 512]⟩
abbrev S1x1x64x64 : Shape := ⟨4, ![1, 1, 64, 64]⟩
abbrev S1x1x512 : Shape := ⟨3, ![1, 1, 512]⟩
abbrev S1x1x64 : Shape := ⟨3, ![1, 1, 64]⟩
abbrev S1x512x512 : Shape := ⟨3, ![1, 512, 512]⟩
abbrev S1x4x512 : Shape := ⟨3, ![1, 4, 512]⟩
abbrev S1x32x512 : Shape := ⟨3, ![1, 32, 512]⟩
abbrev S1 : Shape := ⟨1, ![1]⟩
abbrev S64x512 : Shape := ⟨2, ![64, 512]⟩
abbrev S64x64 : Shape := ⟨2, ![64, 64]⟩
abbrev S4x512 : Shape := ⟨2, ![4, 512]⟩
abbrev S512x4 : Shape := ⟨2, ![512, 4]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S32x512 : Shape := ⟨2, ![32, 512]⟩
abbrev S1x512 : Shape := ⟨2, ![1, 512]⟩
abbrev S64 : Shape := ⟨1, ![64]⟩
abbrev S64x1 : Shape := ⟨2, ![64, 1]⟩
abbrev S1x64 : Shape := ⟨2, ![1, 64]⟩

abbrev nBuf : Space → Nat
  | .hbm => 11
  | .vmem => 18
  | .smem => 1
  | _ => 0

abbrev bufTy : (tb : Table) → Fin (tcTables nBuf tb) → BufTy
  | .hbm, ⟨0, _⟩ => ⟨S8, .i32⟩
  | .hbm, ⟨1, _⟩ => ⟨S8x1x64x512, .bf16⟩
  | .hbm, ⟨2, _⟩ => ⟨S8x1x64x64, .bf16⟩
  | .hbm, ⟨3, _⟩ => ⟨S8x1x512, .bf16⟩
  | .hbm, ⟨4, _⟩ => ⟨S8x1x64, .bf16⟩
  | .hbm, ⟨5, _⟩ => ⟨S8x512x512, .i8⟩
  | .hbm, ⟨6, _⟩ => ⟨S8x4x512, .f32⟩
  | .hbm, ⟨7, _⟩ => ⟨S8x32x512, .i32⟩
  | .hbm, ⟨8, _⟩ => ⟨S8x1x512, .i32⟩
  | .hbm, ⟨9, _⟩ => ⟨S8x512x512, .fp8e4m3⟩
  | .hbm, ⟨10, _⟩ => ⟨S8x1x64x512, .bf16⟩
  | .local _ .vmem, ⟨0, _⟩ => ⟨S1x1x64x512, .bf16⟩
  | .local _ .vmem, ⟨1, _⟩ => ⟨S1x1x64x512, .bf16⟩
  | .local _ .vmem, ⟨2, _⟩ => ⟨S1x1x64x64, .bf16⟩
  | .local _ .vmem, ⟨3, _⟩ => ⟨S1x1x64x64, .bf16⟩
  | .local _ .vmem, ⟨4, _⟩ => ⟨S1x1x512, .bf16⟩
  | .local _ .vmem, ⟨5, _⟩ => ⟨S1x1x512, .bf16⟩
  | .local _ .vmem, ⟨6, _⟩ => ⟨S1x1x64, .bf16⟩
  | .local _ .vmem, ⟨7, _⟩ => ⟨S1x1x64, .bf16⟩
  | .local _ .vmem, ⟨8, _⟩ => ⟨S1x512x512, .fp8e4m3⟩
  | .local _ .vmem, ⟨9, _⟩ => ⟨S1x512x512, .fp8e4m3⟩
  | .local _ .vmem, ⟨10, _⟩ => ⟨S1x4x512, .f32⟩
  | .local _ .vmem, ⟨11, _⟩ => ⟨S1x4x512, .f32⟩
  | .local _ .vmem, ⟨12, _⟩ => ⟨S1x32x512, .i32⟩
  | .local _ .vmem, ⟨13, _⟩ => ⟨S1x32x512, .i32⟩
  | .local _ .vmem, ⟨14, _⟩ => ⟨S1x1x512, .i32⟩
  | .local _ .vmem, ⟨15, _⟩ => ⟨S1x1x512, .i32⟩
  | .local _ .vmem, ⟨16, _⟩ => ⟨S1x1x64x512, .bf16⟩
  | .local _ .vmem, ⟨17, _⟩ => ⟨S1x1x64x512, .bf16⟩
  | .local _ .smem, ⟨0, _⟩ => ⟨S8, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8 : Shape := ⟨1, ![8]⟩
abbrev S8x1x64x512 : Shape := ⟨4, ![8, 1, 64, 512]⟩
abbrev S8x1x64x64 : Shape := ⟨4, ![8, 1, 64, 64]⟩
abbrev S8x1x512 : Shape := ⟨3, ![8, 1, 512]⟩
abbrev S8x1x64 : Shape := ⟨3, ![8, 1, 64]⟩
abbrev S8x512x512 : Shape := ⟨3, ![8, 512, 512]⟩
abbrev S8x4x512 : Shape := ⟨3, ![8, 4, 512]⟩
abbrev S8x32x512 : Shape := ⟨3, ![8, 32, 512]⟩
abbrev S8x1x1 : Shape := ⟨3, ![8, 1, 1]⟩
abbrev S8x512x4 : Shape := ⟨3, ![8, 512, 4]⟩
abbrev S8x1x512x4 : Shape := ⟨4, ![8, 1, 512, 4]⟩
abbrev S8x64x512 : Shape := ⟨3, ![8, 64, 512]⟩
abbrev S8x512x64 : Shape := ⟨3, ![8, 512, 64]⟩
abbrev S8x1x512x64 : Shape := ⟨4, ![8, 1, 512, 64]⟩
abbrev S8x1x512x4x128 : Shape := ⟨5, ![8, 1, 512, 4, 128]⟩
abbrev S8x1x512x4x1 : Shape := ⟨5, ![8, 1, 512, 4, 1]⟩
abbrev S8x1x512x512 : Shape := ⟨4, ![8, 1, 512, 512]⟩
abbrev S8x1x64x576 : Shape := ⟨4, ![8, 1, 64, 576]⟩
abbrev S8x1x512x576 : Shape := ⟨4, ![8, 1, 512, 576]⟩
abbrev S8x1x576 : Shape := ⟨3, ![8, 1, 576]⟩
abbrev S8x1x64x1 : Shape := ⟨4, ![8, 1, 64, 1]⟩
abbrev S8x1x1x512 : Shape := ⟨4, ![8, 1, 1, 512]⟩
abbrev S1x1 : Shape := ⟨2, ![1, 1]⟩
abbrev S1 : Shape := ⟨1, ![1]⟩
abbrev S1x1x1x1 : Shape := ⟨4, ![1, 1, 1, 1]⟩
abbrev S8x1x64x513 : Shape := ⟨4, ![8, 1, 64, 513]⟩

abbrev nBuf : Space → Nat
  | .hbm => 11
  | .vmem => 10
  | .smem => 0
  | _ => 0

abbrev bufTy : (tb : Table) → Fin (tcTables nBuf tb) → BufTy
  | .hbm, ⟨0, _⟩ => ⟨S8, .i32⟩
  | .hbm, ⟨1, _⟩ => ⟨S8x1x64x512, .bf16⟩
  | .hbm, ⟨2, _⟩ => ⟨S8x1x64x64, .bf16⟩
  | .hbm, ⟨3, _⟩ => ⟨S8x1x512, .bf16⟩
  | .hbm, ⟨4, _⟩ => ⟨S8x1x64, .bf16⟩
  | .hbm, ⟨5, _⟩ => ⟨S8x512x512, .i8⟩
  | .hbm, ⟨6, _⟩ => ⟨S8x4x512, .f32⟩
  | .hbm, ⟨7, _⟩ => ⟨S8x32x512, .i32⟩
  | .hbm, ⟨8, _⟩ => ⟨S8x1x512, .i32⟩
  | .hbm, ⟨9, _⟩ => ⟨S8x512x512, .fp8e4m3⟩
  | .hbm, ⟨10, _⟩ => ⟨S8x1x64x512, .bf16⟩
  | .local _ .vmem, ⟨0, _⟩ => ⟨S8, .i32⟩
  | .local _ .vmem, ⟨1, _⟩ => ⟨S8x1x64x512, .bf16⟩
  | .local _ .vmem, ⟨2, _⟩ => ⟨S8x1x64x64, .bf16⟩
  | .local _ .vmem, ⟨3, _⟩ => ⟨S8x1x512, .bf16⟩
  | .local _ .vmem, ⟨4, _⟩ => ⟨S8x1x64, .bf16⟩
  | .local _ .vmem, ⟨5, _⟩ => ⟨S8x512x512, .fp8e4m3⟩
  | .local _ .vmem, ⟨6, _⟩ => ⟨S8x4x512, .f32⟩
  | .local _ .vmem, ⟨7, _⟩ => ⟨S8x32x512, .i32⟩
  | .local _ .vmem, ⟨8, _⟩ => ⟨S8x1x512, .i32⟩
  | .local _ .vmem, ⟨9, _⟩ => ⟨S8x1x64x512, .bf16⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x512x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x512 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x512 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x64x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Softmax.lean ====
/- One row of the attention as scalar arithmetic: a head's score against a slot, the row's maximum over the cached slots
   and the new token, the row's normalizer, and the weighted sum of latents — once with every weight a product with the
   reciprocal of the normalizer, once with every weight a quotient. The two are equal when the new token's score is a
   real number and no cached score is `⊤`. -/
module

public import Idealize.ShloMosaic.Lib.Pointwise
public import Idealize.ShloMosaic.Lib.IdealHost

@[expose] public section

noncomputable section

namespace Cert.Attn

open Idealize.ShloMosaic
open scoped BigOperators

/-- The pattern the scores are scaled by: one over the square root of 192, at f32. -/
abbrev scoreScale : EReal := Ideal.ofBits .f32 0x3D93CD3A#32

/-- The pattern a masked score is replaced by. -/
abbrev negInf : EReal := Ideal.ofBits .f32 0xFF800000#32

/-- That pattern is `⊥`. -/
theorem negInf_eq : negInf = ⊥ := by
  simp [negInf, Ideal.ofBits, Ideal.ieee]

/-- The score of a head (`q`, `qr`) against a slot (`l`, `r`): the two inner products added, then scaled. -/
def score (q : Fin 512 → EReal) (qr : Fin 64 → EReal) (l : Fin 512 → EReal) (r : Fin 64 → EReal) : EReal :=
  (∑ x, q x * l x + ∑ x, qr x * r x) * scoreScale

/-- The row's maximum, over the cached slots' scores and the new token's. -/
def rowMax (s : Fin 512 → EReal) (n : EReal) : EReal := max (Finset.univ.fold max negInf s) n

/-- The row's normalizer: the exponentials of the scores less the maximum, added up. -/
def expSum (s : Fin 512 → EReal) (n : EReal) : EReal :=
  ∑ k, Ideal.exp (s k - rowMax s n) + Ideal.exp (n - rowMax s n)

/-- One component of the row's result, every weight a product with the normalizer's reciprocal. -/
def attnMul (s : Fin 512 → EReal) (n : EReal) (l : Fin 512 → EReal) (v : EReal) : EReal :=
  ∑ k, Ideal.exp (s k - rowMax s n) * Ideal.div 1 (expSum s n) * l k
    + Ideal.exp (n - rowMax s n) * Ideal.div 1 (expSum s n) * v

/-- One component of the row's result, every weight a quotient by the normalizer. -/
def attnDiv (s : Fin 512 → EReal) (n : EReal) (l : Fin 512 → EReal) (v : EReal) : EReal :=
  ∑ k, Ideal.div (Ideal.exp (s k - rowMax s n)) (expSum s n) * l k
    + Ideal.div (Ideal.exp (n - rowMax s n)) (expSum s n) * v

/-- An exponential is not negative. -/
theorem exp_nonneg (x : EReal) : 0 ≤ Ideal.exp x := by
  induction x using EReal.rec with
  | bot => exact le_refl (0 : EReal)
  | top => exact (le_top : (0 : EReal) ≤ ⊤)
  | coe r => exact EReal.coe_nonneg.mpr (Real.exp_pos r).le

/-- The fold of `max` over the slots is the initial value or one of the slots'. -/
theorem fold_max_mem {ι : Type} (S : Finset ι) (b : EReal) (f : ι → EReal) :
    S.fold max b f = b ∨ ∃ k ∈ S, S.fold max b f = f k := by
  classical
  induction S using Finset.induction_on with
  | empty => exact .inl (by simp)
  | insert a S ha ih =>
    rw [Finset.fold_insert ha]
    rcases max_choice (f a) (S.fold max b f) with h | h
    · exact .inr ⟨a, Finset.mem_insert_self a S, h⟩
    · rw [h]
      rcases ih with h' | ⟨k, hk, h'⟩
      · exact .inl h'
      · exact .inr ⟨k, Finset.mem_insert_of_mem hk, h'⟩

/-- A real number less itself, exponentiated, is one. -/
theorem exp_sub_self {x : EReal} (ht : x ≠ ⊤) (hb : x ≠ ⊥) : Ideal.exp (x - x) = 1 := by
  rw [EReal.sub_self ht hb]
  show ((Real.exp 0 : ℝ) : EReal) = 1
  rw [Real.exp_zero, EReal.coe_one]

/-- The normalizer is not zero when the new token's score is real and no cached score is `⊤`: the maximum is then real
    and one of the scores, and that score's exponential is one. -/
theorem expSum_ne_zero {s : Fin 512 → EReal} {n : EReal} (hs : ∀ k, s k ≠ ⊤) (ht : n ≠ ⊤) (hb : n ≠ ⊥) :
    expSum s n ≠ 0 := by
  have hm : (∃ k, rowMax s n = s k ∧ s k ≠ ⊥) ∨ rowMax s n = n := by
    rcases max_choice (Finset.univ.fold max negInf s) n with h | h
    · rcases fold_max_mem Finset.univ negInf s with h' | ⟨k, -, h'⟩
      · right
        have : rowMax s n = ⊥ := by rw [rowMax, h, h', negInf_eq]
        have hn : n ≤ ⊥ := this ▸ le_max_right _ _
        exact absurd (le_bot_iff.mp hn) hb
      · refine .inl ⟨k, by rw [rowMax, h, h'], fun e => hb ?_⟩
        have : n ≤ rowMax s n := le_max_right _ _
        rw [rowMax, h, h', e] at this
        exact le_bot_iff.mp this
    · exact .inr h
  have h1 : 1 ≤ expSum s n := by
    unfold expSum
    rcases hm with ⟨k, hk, hkb⟩ | hn
    · rw [hk]
      calc (1 : EReal) = Ideal.exp (s k - s k) := (exp_sub_self (hs k) hkb).symm
        _ ≤ ∑ k', Ideal.exp (s k' - s k) :=
          Finset.single_le_sum (f := fun k' => Ideal.exp (s k' - s k)) (fun i _ => exp_nonneg _) (Finset.mem_univ k)
        _ ≤ _ := le_add_of_nonneg_right (exp_nonneg _)
    · rw [hn, exp_sub_self ht hb]
      exact le_add_of_nonneg_left (Finset.sum_nonneg fun i _ => exp_nonneg _)
  intro e
  rw [e] at h1
  exact absurd h1 (by simp)

/-- The two forms are equal when the new token's score is real and no cached score is `⊤`. -/
theorem attnMul_eq_attnDiv {s : Fin 512 → EReal} {n : EReal} (l : Fin 512 → EReal) (v : EReal) (hs : ∀ k, s k ≠ ⊤)
    (ht : n ≠ ⊤) (hb : n ≠ ⊥) : attnMul s n l v = attnDiv s n l v := by
  have h := expSum_ne_zero hs ht hb
  simp only [attnMul, attnDiv, Ideal.mul_one_div h]

/-! ## Real numbers -/

/-- An extended real that is a real number. -/
def IsReal (x : EReal) : Prop := ∃ r : ℝ, x = (r : EReal)

/-- A real number is not `⊤`. -/
theorem IsReal.ne_top {x : EReal} : IsReal x → x ≠ ⊤ := by rintro ⟨r, rfl⟩; exact EReal.coe_ne_top r

/-- A real number is not `⊥`. -/
theorem IsReal.ne_bot {x : EReal} : IsReal x → x ≠ ⊥ := by rintro ⟨r, rfl⟩; exact EReal.coe_ne_bot r

/-- Strictly between `⊥` and `⊤` is real. -/
theorem isReal_of_ne {x : EReal} (ht : x ≠ ⊤) (hb : x ≠ ⊥) : IsReal x := ⟨x.toReal, (EReal.coe_toReal ht hb).symm⟩

/-- A product of two real numbers is real. -/
theorem IsReal.mul {x y : EReal} : IsReal x → IsReal y → IsReal (x * y) := by
  rintro ⟨r, rfl⟩ ⟨t, rfl⟩; exact ⟨r * t, (EReal.coe_mul r t).symm⟩

/-- A sum of two real numbers is real. -/
theorem IsReal.add {x y : EReal} : IsReal x → IsReal y → IsReal (x + y) := by
  rintro ⟨r, rfl⟩ ⟨t, rfl⟩; exact ⟨r + t, (EReal.coe_add r t).symm⟩

/-- A finite sum of real numbers is real. -/
theorem isReal_sum {ι : Type} (S : Finset ι) {f : ι → EReal} (h : ∀ i, IsReal (f i)) : IsReal (∑ i ∈ S, f i) := by
  classical
  induction S using Finset.induction_on with
  | empty => exact ⟨0, by simp⟩
  | insert a S ha ih => rw [Finset.sum_insert ha]; exact (h a).add ih

/-- The scale is real. -/
theorem isReal_scoreScale : IsReal scoreScale := by
  simp [IsReal, scoreScale, Ideal.ofBits, Ideal.ieee, -EReal.coe_mul]

/-- A score of real numbers is real. -/
theorem isReal_score {q : Fin 512 → EReal} {qr : Fin 64 → EReal} {l : Fin 512 → EReal} {r : Fin 64 → EReal}
    (hq : ∀ x, IsReal (q x)) (hqr : ∀ x, IsReal (qr x)) (hl : ∀ x, IsReal (l x)) (hr : ∀ x, IsReal (r x)) :
    IsReal (score q qr l r) :=
  ((isReal_sum _ fun x => (hq x).mul (hl x)).add (isReal_sum _ fun x => (hqr x).mul (hr x))).mul isReal_scoreScale

end Cert.Attn

end
-- ==== Proof.Formula.lean ====
/- The attention over the whole arrays, one element of the result at a time: the dequantized latents, the rope rows taken
   out of their packed words, the validity of a slot, the scores, and the two forms of the result. -/
module

public import proofs.«01_k».proof.Proof.Softmax
public import Idealize.ShloMosaic.Lib.BitcastPair

@[expose] public section

noncomputable section

namespace Cert.Attn

open Idealize.ShloMosaic
open scoped BigOperators

abbrev T8 : Shape := ⟨1, ![8]⟩
abbrev T8x1x512 : Shape := ⟨3, ![8, 1, 512]⟩
abbrev T8x1x64 : Shape := ⟨3, ![8, 1, 64]⟩
abbrev T8x4x512 : Shape := ⟨3, ![8, 4, 512]⟩
abbrev T8x32x512 : Shape := ⟨3, ![8, 32, 512]⟩
abbrev T8x64x512 : Shape := ⟨3, ![8, 64, 512]⟩
abbrev T8x512x512 : Shape := ⟨3, ![8, 512, 512]⟩
abbrev T8x1x64x512 : Shape := ⟨4, ![8, 1, 64, 512]⟩
abbrev T8x1x64x64 : Shape := ⟨4, ![8, 1, 64, 64]⟩
abbrev T32x512 : Shape := ⟨2, ![32, 512]⟩
abbrev T64x512 : Shape := ⟨2, ![64, 512]⟩

/-- Row `j` of the 16-bit rows packed two to a 32-bit word: the low half of word `j / 2` for an even row, its high half
    for an odd one. -/
def half (w : BitVec 32) (j : ℕ) : BitVec 16 := w.extractLsb' (16 * (j % 2)) 16

/-- The 16-bit rows of a plane of words, read at an index. -/
theorem bitcast_plane (x : T32x512.Idx → BitVec 32) (h : T32x512.Bitcasts 32 T64x512 16) (j : Fin 64) (k : Fin 512) :
    bitcast T64x512 16 x h (ix2 j k) = half (x (ix2 ⟨j.val / 2, by omega⟩ k)) j.val := by
  rw [bitcast_32_16]
  have e : T64x512.row (ix2 j k) = j.val := rfl
  simp only [e, half]
  congr 2
  funext a
  match a with
  | ⟨0, _⟩ => rfl
  | ⟨1, _⟩ => rfl

/-- The 16-bit rows of a stack of planes of words, read at an index. -/
theorem bitcast_stack (x : T8x32x512.Idx → BitVec 32) (h : T8x32x512.Bitcasts 32 T8x64x512 16) (b : Fin 8) (j : Fin 64)
    (k : Fin 512) :
    bitcast T8x64x512 16 x h (ix3 b j k) = half (x (ix3 b ⟨j.val / 2, by omega⟩ k)) j.val := by
  rw [bitcast_32_16]
  have e : T8x64x512.row (ix3 b j k) = j.val := rfl
  simp only [e, half]
  congr 2
  funext a
  match a with
  | ⟨0, _⟩ => rfl
  | ⟨1, _⟩ => rfl
  | ⟨2, _⟩ => rfl

variable (len : T8.Idx → BitVec 32) (q : T8x1x64x512.Idx → EReal) (qr : T8x1x64x64.Idx → EReal)
  (kvn : T8x1x512.Idx → EReal) (krn : T8x1x64.Idx → EReal) (codes : T8x512x512.Idx → BitVec 8)
  (scale : T8x4x512.Idx → EReal) (rope : T8x32x512.Idx → BitVec 32) (idx : T8x1x512.Idx → BitVec 32)

/-- Component `c` of the latent in slot `k` of batch `b`: its float8 code times the scale of its group of 128. -/
def latent (b : Fin 8) (k c : Fin 512) : EReal :=
  Ideal.ofBits .fp8e4m3 (codes (ix3 b k c)) * scale (ix3 b ⟨c.val / 128, by omega⟩ k)

/-- Component `j` of the rope key in slot `k` of batch `b`: a bfloat16 row of the packed words. -/
def ropeAt (b : Fin 8) (k : Fin 512) (j : Fin 64) : EReal :=
  Ideal.ofBits .bf16 (half (rope (ix3 b ⟨j.val / 2, by omega⟩ k)) j.val)

/-- Whether slot `k` of batch `b` holds a live position: its index is not negative and below the batch's length. -/
def valid (b : Fin 8) (k : Fin 512) : BitVec 1 :=
  IntOp.andi (IntOp.cmpi .sge (idx (ix3 b 0 k)) 0#32) (IntOp.cmpi .slt (idx (ix3 b 0 k)) (len (ix1 b)))

/-- The score of head `h` against slot `k`, masked where the slot is not live. -/
def cached (b : Fin 8) (h : Fin 64) (k : Fin 512) : EReal :=
  Scalar.select (valid len idx b k)
    (score (fun x => q (ix4 b 0 h x)) (fun x => qr (ix4 b 0 h x)) (latent codes scale b k) (ropeAt rope b k)) negInf

/-- The score of head `h` against the new token. -/
def fresh (b : Fin 8) (h : Fin 64) : EReal :=
  score (fun x => q (ix4 b 0 h x)) (fun x => qr (ix4 b 0 h x)) (fun x => kvn (ix3 b 0 x)) (fun x => krn (ix3 b 0 x))

/-- The result with every weight a product with the normalizer's reciprocal. -/
def resultMul (b : Fin 8) (h : Fin 64) (c : Fin 512) : EReal :=
  attnMul (cached len q qr codes scale rope idx b h) (fresh q qr kvn krn b h) (fun k => latent codes scale b k c) (kvn (ix3 b 0 c))

/-- The result with every weight a quotient by the normalizer. -/
def resultDiv (b : Fin 8) (h : Fin 64) (c : Fin 512) : EReal :=
  attnDiv (cached len q qr codes scale rope idx b h) (fresh q qr kvn krn b h) (fun k => latent codes scale b k c) (kvn (ix3 b 0 c))

end Cert.Attn

end
-- ==== Proof.KernelBlock.lean ====
/- What one grid point of the kernel computes: its result block, element by element, as the row formula of
   `Proof/Softmax.lean` over the blocks it reads. -/
module

public import proofs.«01_k».proof.Proof.Gen.KernelIdeal.Value
public import proofs.«01_k».proof.Proof.Formula
public import Idealize.ShloMosaic.Lib.Pipeline.ValueKit

@[expose] public section

noncomputable section

namespace Cert.KernelIdeal.Block

open Cert.KernelIdeal Cert.KernelIdeal.Gen Cert.Attn Idealize.ShloMosaic Idealize.ShloMosaic.TcCoe
open scoped BigOperators

/-- The four column groups of a block of codes, each multiplied by its scale row and set side by side: the latents. -/
def latents (x5 : Vec Ideal S1x512x512 .fp8e4m3) (x6 : Vec Ideal S1x4x512 .f32) : FVec Ideal S512x512 .bf16 :=
  k0_pay9 (k0_pay4 x6)
    (k0_pay5 x6 (View.ld x5 (Rect.unit ![0, 0, 0] ![1, 512, 128] inb_S1x512x512_S1x512x128_0_0_0)))
    (k0_pay6 x6 (View.ld x5 (Rect.unit ![0, 0, 128] ![1, 512, 128] inb_S1x512x512_S1x512x128_0_0_128)))
    (k0_pay7 x6 (View.ld x5 (Rect.unit ![0, 0, 256] ![1, 512, 128] inb_S1x512x512_S1x512x128_0_0_256)))
    (k0_pay8 (View.ld x5 (Rect.unit ![0, 0, 384] ![1, 512, 128] inb_S1x512x512_S1x512x128_0_0_384)))

/-- A latent of the block: a code times the scale of its group of 128 columns. -/
theorem latents_apply (x5 : Vec Ideal S1x512x512 .fp8e4m3) (x6 : Vec Ideal S1x4x512 .f32) (k c : Fin 512) :
    latents x5 x6 (ix2 k c) = x5 (ix3 0 k c) * x6 (ix3 0 ⟨c.val / 128, by omega⟩ k) := by
  pointwise [latents, k0_pay9, k0_pay8, k0_pay7, k0_pay6, k0_pay5, k0_pay4]
  have e (i j : Fin 512) (g g' : Fin 4) (hi : i.val = j.val) (hg : g.val = g'.val) :
      x5 (ix3 0 k i) * x6 (ix3 0 g k) = x5 (ix3 0 k j) * x6 (ix3 0 g' k) := by
    rw [Fin.ext hi, Fin.ext hg]
  have hc := c.isLt
  by_cases h0 : c.val < 128
  · rw [dif_pos h0]
    exact e _ _ _ _ rfl (show 0 = c.val / 128 by omega)
  rw [dif_neg h0]
  by_cases h1 : c.val - 128 < 128
  · rw [dif_pos h1]
    exact e _ _ _ _ (show 128 + (c.val - 128) = c.val by omega) (show 1 = c.val / 128 by omega)
  rw [dif_neg h1]
  by_cases h2 : c.val - 128 - 128 < 128
  · rw [dif_pos h2]
    exact e _ _ _ _ (show 256 + (c.val - 128 - 128) = c.val by omega) (show 2 = c.val / 128 by omega)
  rw [dif_neg h2]
  exact e _ _ _ _ (show 384 + (c.val - 128 - 128 - 128) = c.val by omega) (show 3 = c.val / 128 by omega)

/-- The row's result from the latents, the scores, the new token's latent, its score and the slots' validity. -/
theorem row_apply (v41 : FVec Ideal S512x512 .bf16) (v49 : FVec Ideal S64x512 .f32) (v51 : FVec Ideal S1x512 .bf16)
    (v68 : FVec Ideal S64x1 .f32) (v75 : IVec S1x512 1) (h : Fin 64) (c : Fin 512) :
    k0_pay1 v41 v49 v51 v68 v75 (FloatOps.ofBits .f32 0xFF800000#32) (ix4 0 0 h c)
      = attnMul (fun k => Scalar.select (v75 (ix2 0 k)) (v49 (ix2 h k)) negInf) (v68 (ix2 h 0))
          (fun k => v41 (ix2 k c)) (v51 (ix2 0 c)) := by
  pointwise [k0_pay1]
  rfl

/-- A score of the block. -/
theorem score_apply (x1 : Vec Ideal S1x1x64x512 .bf16) (x2 : Vec Ideal S1x1x64x64 .bf16) (v8 : FVec Ideal S512x4 .f32)
    (v16 v24 v32 v35 : FVec Ideal S512x128 .bf16) (x7 : Vec Ideal S1x32x512 .i32) (h : Fin 64) (k : Fin 512) :
    k0_pay10 (k0_pay2 x1) (k0_pay3 x2) v8 v16 v24 v32 v35 x7 (ix2 h k)
      = score (fun x => x1 (ix4 0 0 h x)) (fun x => x2 (ix4 0 0 h x)) (fun x => k0_pay9 v8 v16 v24 v32 v35 (ix2 k x))
          (fun x => Ideal.ofBits .bf16 (half (x7 (ix3 0 ⟨x.val / 2, by omega⟩ k)) x.val)) := by
  pointwise [k0_pay10, k0_pay2, k0_pay3, bitcast_plane]
  rfl

/-- The new token's score. -/
theorem fresh_apply (x1 : Vec Ideal S1x1x64x512 .bf16) (x2 : Vec Ideal S1x1x64x64 .bf16) (x3 : Vec Ideal S1x1x512 .bf16)
    (x4 : Vec Ideal S1x1x64 .bf16) (h : Fin 64) :
    k0_pay12 (k0_pay2 x1) (k0_pay3 x2) x3 x4 (ix2 h 0)
      = score (fun x => x1 (ix4 0 0 h x)) (fun x => x2 (ix4 0 0 h x)) (fun x => x3 (ix3 0 0 x)) (fun x => x4 (ix3 0 0 x)) := by
  pointwise [k0_pay12, k0_pay11, k0_pay2, k0_pay3]
  rfl

/-- A slot's validity. -/
theorem valid_apply (v1 : Elt Ideal .i32) (x8 : Vec Ideal S1x1x512 .i32) (k : Fin 512) :
    k0_pay13 (F := Ideal) v1 x8 (ix2 0 k)
      = IntOp.andi (IntOp.cmpi .sge (x8 (ix3 0 0 k)) 0#32) (IntOp.cmpi .slt (x8 (ix3 0 0 k)) v1) := by
  pointwise [k0_pay13]

/-- The new token's latent. -/
theorem new_apply (x3 : Vec Ideal S1x1x512 .bf16) (c : Fin 512) : k0_pay11 x3 (ix2 0 c) = x3 (ix3 0 0 c) := by
  pointwise [k0_pay11]

end Cert.KernelIdeal.Block

end
-- ==== Proof.KernelArray.lean ====
/- What the kernel's result array holds after the run: every element the row formula with reciprocal weights, over the
   argument arrays. -/
module

public import proofs.«01_k».proof.Proof.KernelBlock
public import Idealize.ShloMosaic.Lib.Claim

@[expose] public section

noncomputable section

namespace Cert.KernelIdeal.Block

open Cert.KernelIdeal Cert.KernelIdeal.Gen Cert.Attn Idealize.ShloMosaic Idealize.ShloMosaic.TcCoe
open Idealize.ShloMosaic.Pipeline (Dat)
open scoped BigOperators

variable (m : (ℓ : Loc nD τ sig) → Buf (Elt Ideal) ℓ)

/-- The kernel's result array, from the argument arrays. -/
def value (c : Dev nD) : S8x1x64x512.Idx → EReal := fun i =>
  resultMul (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (i 0) (i 2) (i 3)

/-- At grid point `t` the blocks are those of batch `t`. -/
theorem idx0 : ∀ t : Fin cfg0.N, win0_0.index t = ![0] := (by decide +kernel : ∀ t : Fin grid0.N, _)
theorem idx1 : ∀ t : Fin cfg0.N, win0_1.index t = ![t.val, 0, 0, 0] := (by decide +kernel : ∀ t : Fin grid0.N, _)
theorem idx2 : ∀ t : Fin cfg0.N, win0_2.index t = ![t.val, 0, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0, 0] := (by decide +kernel : ∀ t : Fin grid0.N, _)
theorem idx8 : ∀ t : Fin cfg0.N, win0_8.index t = ![t.val, 0, 0] := (by decide +kernel : ∀ t : Fin grid0.N, _)
theorem idx9 : ∀ t : Fin cfg0.N, win0_9.index t = ![t.val, 0, 0, 0] := (by decide +kernel : ∀ t : Fin grid0.N, _)
theorem coord : ∀ t : Fin cfg0.N, (grid0.coords t 0).val = t.val := (by decide +kernel : ∀ t : Fin grid0.N, _)

/-- At grid point `t` the length is read at `t`. -/
theorem off0 : ∀ t : Fin cfg0.N, k0_off1 (grid0.coords t) 0 = t.val := (by decide +kernel : ∀ t : Fin grid0.N, _)

variable (c : Dev nD) (t : Fin cfg0.N) (b : Fin 8) (hb : b.val = t.val)
include hb

/-- The batch's queries. -/
theorem read1 (h : Fin 64) (x : Fin 512) :
    iblk m c 1 t (ix4 0 0 h x) = m ((c : Thread nD τ).loc main_arg1) (ix4 b 0 h x) := by
  rw [← V_main_arg1 m c]
  blk_ext [iblk, idx1 t]

/-- The batch's rope queries. -/
theorem read2 (h : Fin 64) (x : Fin 64) :
    iblk m c 2 t (ix4 0 0 h x) = m ((c : Thread nD τ).loc main_arg2) (ix4 b 0 h x) := by
  rw [← V_main_arg2 m c]
  blk_ext [iblk, idx2 t]

/-- The batch's new latent. -/
theorem read3 (x : Fin 512) : iblk m c 3 t (ix3 0 0 x) = m ((c : Thread nD τ).loc main_arg3) (ix3 b 0 x) := by
  rw [← V_main_arg3 m c]
  blk_ext [iblk, idx3 t]

/-- The batch's new rope key. -/
theorem read4 (x : Fin 64) : iblk m c 4 t (ix3 0 0 x) = m ((c : Thread nD τ).loc main_arg4) (ix3 b 0 x) := by
  rw [← V_main_arg4 m c]
  blk_ext [iblk, idx4 t]

/-- The batch's codes: the words read as float8. -/
theorem read5 (k x : Fin 512) :
    iblk m c 5 t (ix3 0 k x) = Ideal.ofBits .fp8e4m3 (m ((c : Thread nD τ).loc main_arg5) (ix3 b k x)) := by
  have e : V m c main_v0 = fun i => Ideal.ofBits .fp8e4m3 (m ((c : Thread nD τ).loc main_arg5) i) := by
    entry_read
    rfl
  have r : iblk m c 5 t (ix3 0 k x) = V m c main_v0 (ix3 b k x) := by
    blk_ext [iblk, idx5 t]
  rw [r, e]

/-- The batch's scales. -/
theorem read6 (g : Fin 4) (k : Fin 512) :
    iblk m c 6 t (ix3 0 g k) = m ((c : Thread nD τ).loc main_arg6) (ix3 b g k) := by
  rw [← V_main_arg6 m c]
  blk_ext [iblk, idx6 t]

/-- The batch's rope words. -/
theorem read7 (j : Fin 32) (k : Fin 512) :
    iblk m c 7 t (ix3 0 j k) = m ((c : Thread nD τ).loc main_arg7) (ix3 b j k) := by
  rw [← V_main_arg7 m c]
  blk_ext [iblk, idx7 t]

/-- The batch's slot indices. -/
theorem read8 (k : Fin 512) : iblk m c 8 t (ix3 0 0 k) = m ((c : Thread nD τ).loc main_arg8) (ix3 b 0 k) := by
  rw [← V_main_arg8 m c]
  blk_ext [iblk, idx8 t]

/-- The batch's length. -/
theorem read0 (inb : ∀ a, k0_off1 (grid0.coords t) a + (![1] : Fin 1 → ℕ) a ≤ S8.size a) (p) :
    View.ld (iblk m c 0 t) (Rect.unit (k0_off1 (grid0.coords t)) ![1] inb) (Shape.Idx.first p)
      = m ((c : Thread nD τ).loc main_arg0) (ix1 b) := by
  have off : k0_off1 (grid0.coords t) 0 = t.val := off0 t
  have e : (Rect.unit (k0_off1 (grid0.coords t)) ![1] inb).emb (Shape.Idx.first p) = ix1 b := by
    funext a
    match a with
    | ⟨0, _⟩ =>
      apply Fin.ext
      rw [ValueKit.rect_emb_unit_val]
      show k0_off1 (grid0.coords t) 0 + 0 = b.val
      rw [off, hb, Nat.add_zero]
  have r : iblk m c 0 t (ix1 b) = V m c main_arg0 (ix1 b) := by
    blk_ext [iblk, idx0 t]
  rw [← V_main_arg0 m c, ← r]
  show iblk m c 0 t ((Rect.unit (k0_off1 (grid0.coords t)) ![1] inb).emb (Shape.Idx.first p)) = _
  rw [e]

omit hb in
/-- The kernel's result array after the run. -/
theorem array_eq : (dats m 0 c).arrAt 9 cfg0.N = value m c := by
  refine (dats m 0 c).arrAt_eq_of_covers 9 _ (by decide +kernel) fun t hf y => ?_
  blk_simp
  rw [after0_9]
  unfold outsAt0
  frame_out
  idx_vars y
  obtain rfl : y0 = 0 := Subsingleton.elim _ _
  obtain rfl : y1 = 0 := Subsingleton.elim _ _
  have hb : ((⟨t.val, t.isLt⟩ : Fin 8)).val = t.val := rfl
  generalize (⟨t.val, t.isLt⟩ : Fin 8) = b at hb
  have e : ((View.whole main_v1).slice (win0_9.rect t)).emb (ix4 0 0 y2 y3) = ix4 b 0 y2 y3 := by
    blk_ext [idx9 t]
  have hl := latents_apply (iblk m c 5 t) (iblk m c 6 t)
  unfold latents at hl
  rw [e, row_apply]
  simp only [score_apply, fresh_apply, valid_apply, new_apply, hl, read0 m c t b hb, read1 m c t b hb, read2 m c t b hb,
    read3 m c t b hb, read4 m c t b hb, read5 m c t b hb, read6 m c t b hb, read7 m c t b hb, read8 m c t b hb]
  rfl

end Cert.KernelIdeal.Block

end
-- ==== Proof.ReferenceBlock.lean ====
/- What the reference computes, element by element: the row formula of `Proof/Softmax.lean` with quotient weights. Its
   inner products run over 576 components, a latent's 512 and a rope key's 64 side by side, and its softmax over 513
   scores, the cached 512 and the new token's; each splits into the two parts of the formula. -/
module

public import proofs.«01_k».proof.Proof.Gen.ReferenceIdeal.Value
public import proofs.«01_k».proof.Proof.Formula
public import Idealize.ShloMosaic.Lib.Pipeline.ValueKit

@[expose] public section

noncomputable section

namespace Cert.ReferenceIdeal.Block

open Cert.ReferenceIdeal Cert.ReferenceIdeal.Gen Cert.Attn Idealize.ShloMosaic Idealize.ShloMosaic.TcCoe
open scoped BigOperators

/-- The maximum over 513 elements is that over the first 512, then the last. -/
theorem fold_max_513 (g : Fin 513 → EReal) :
    Finset.univ.fold max negInf g = max (Finset.univ.fold max negInf fun k : Fin 512 => g k.castSucc) (g (Fin.last 512)) := by
  have e : (Finset.univ : Finset (Fin 513)) = insert (Fin.last 512) (Finset.univ.map Fin.castSuccEmb) := by
    ext x
    simp only [Finset.mem_univ, Finset.mem_insert, Finset.mem_map, true_and, true_iff]
    rcases Fin.eq_castSucc_or_eq_last x with ⟨k, rfl⟩ | rfl
    · exact .inr ⟨k, rfl⟩
    · exact .inl rfl
  rw [e, Finset.fold_insert, Finset.fold_map, max_comm]
  · rfl
  · simp only [Finset.mem_map, Finset.mem_univ, true_and, not_exists]
    exact fun k hk => absurd hk (Fin.castSucc_ne_last k)

/-- A slot's validity. -/
theorem valid_apply (v4 : Vec Ideal S8x1x512 .i32) (v5 : Vec Ideal S8 .i32) (b : Fin 8) (k : Fin 512) :
    k0_pay2 (F := Ideal) v4 v5 (ix3 b 0 k)
      = IntOp.andi (IntOp.cmpi .sge (v4 (ix3 b 0 k)) 0#32) (IntOp.cmpi .slt (v4 (ix3 b 0 k)) (v5 (ix1 b))) := by
  pointwise [k0_pay2]

/-- A latent: a code times the scale of its group of 128. -/
theorem latents_apply (v12 : Vec Ideal S8x4x512 .f32) (v19 : Vec Ideal S8x512x512 .fp8e4m3) (b : Fin 8) (k c : Fin 512) :
    k0_pay3 v12 v19 (ix4 b 0 k c) = v19 (ix3 b k c) * v12 (ix3 b ⟨c.val / 128, by omega⟩ k) := by
  pointwise [k0_pay3]

/-- A query's inner product with a slot's key. -/
theorem dot_apply (x : FVec Ideal S8x1x64x512 .bf16) (y : FVec Ideal S8x1x64x64 .bf16) (v12 : Vec Ideal S8x4x512 .f32)
    (v15 : Vec Ideal S8x32x512 .i32) (v19 : Vec Ideal S8x512x512 .fp8e4m3) (b : Fin 8) (k : Fin 512) (h : Fin 64) :
    (∑ c : Fin 576, k0_pay4 x y (ix4 b 0 h c) * k0_pay5 v12 v15 v19 (ix4 b 0 k c)) * scoreScale
      = score (fun c => x (ix4 b 0 h c)) (fun c => y (ix4 b 0 h c)) (fun c => k0_pay3 v12 v19 (ix4 b 0 k c))
          (fun j => Ideal.ofBits .bf16 (half (v15 (ix3 b ⟨j.val / 2, by omega⟩ k)) j.val)) := by
  pointwise [k0_pay4, k0_pay5, bitcast_stack]
  rfl

/-- A query's inner product with the new token's key. -/
theorem dot_new_apply (x : FVec Ideal S8x1x64x512 .bf16) (y : FVec Ideal S8x1x64x64 .bf16) (z : Vec Ideal S8x1x512 .bf16)
    (w : Vec Ideal S8x1x64 .bf16) (b : Fin 8) (h : Fin 64) :
    (∑ c : Fin 576, k0_pay4 x y (ix4 b 0 h c) * k0_pay6 z w (ix3 b 0 c)) * scoreScale
      = score (fun c => x (ix4 b 0 h c)) (fun c => y (ix4 b 0 h c)) (fun c => z (ix3 b 0 c)) (fun j => w (ix3 b 0 j)) := by
  pointwise [k0_pay4, k0_pay6]
  rfl

/-- The row's result from the new token's latent, the slots' validity, the latents, the queries and the keys. -/
theorem row_apply (v2 : Vec Ideal S8x1x512 .bf16) (v11 : IVec S8x1x512 1) (v27 : FVec Ideal S8x1x512x512 .bf16)
    (v28 : FVec Ideal S8x1x64x576 .bf16) (v29 : FVec Ideal S8x1x512x576 .bf16) (v30 : FVec Ideal S8x1x576 .bf16)
    (b : Fin 8) (h : Fin 64) (c : Fin 512) :
    k0_pay1 v2 v11 v27 v28 v29 v30 (constant S8x1x64x512 .f32 0x00000000#32) (ix4 b 0 h c)
      = attnDiv (fun k => Scalar.select (v11 (ix3 b 0 k)) ((∑ x : Fin 576, v28 (ix4 b 0 h x) * v29 (ix4 b 0 k x)) * scoreScale) negInf)
          ((∑ x : Fin 576, v28 (ix4 b 0 h x) * v30 (ix3 b 0 x)) * scoreScale)
          (fun k => v27 (ix4 b 0 k c)) (v2 (ix3 b 0 c)) := by
  pointwise [k0_pay1]
  have hc : IntOp.cmpi .sge (0#32) (0#32) = 1 := by decide
  have hm (y : EReal) : max negInf y = y := by rw [negInf_eq]; exact max_eq_right bot_le
  simp only [hc, fold_max_513, hm, Fin.val_castSucc, Fin.val_last, Fin.is_lt, lt_irrefl, dite_true, dite_false,
    Finset.univ_unique, Finset.sum_singleton]
  rfl

end Cert.ReferenceIdeal.Block

end
-- ==== Proof.ReferenceArray.lean ====
/- What the reference's result array holds after the run: every element the row formula with quotient weights, over the
   argument arrays. -/
module

public import proofs.«01_k».proof.Proof.ReferenceBlock
public import Idealize.ShloMosaic.Lib.Claim

@[expose] public section

noncomputable section

namespace Cert.ReferenceIdeal.Block

open Cert.ReferenceIdeal Cert.ReferenceIdeal.Gen Cert.Attn Idealize.ShloMosaic Idealize.ShloMosaic.TcCoe
open Idealize.ShloMosaic.Pipeline (Dat)
open scoped BigOperators

variable (m : (ℓ : Loc nD τ sig) → Buf (Elt Ideal) ℓ)

/-- The reference's result array, from the argument arrays. -/
def value (c : Dev nD) : S8x1x64x512.Idx → EReal := fun i =>
  resultDiv (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (i 0) (i 2) (i 3)

/-! The one grid point's blocks are the whole arrays. -/

theorem idx0 : ∀ t : Fin cfg0.N, win0_0.index t = ![0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0, 0] := (by decide +kernel : ∀ t : Fin grid0.N, _)

variable (c : Dev nD) (t : Fin cfg0.N)

/-- The lengths read. -/
theorem read0 (b : Fin 8) :
    iblk m c 0 t (ix1 b) = m ((c : Thread nD τ).loc main_arg0) (ix1 b) := by
  rw [← V_main_arg0 m c]
  blk_ext [iblk, idx0 t]

/-- The queries read. -/
theorem read1 (b : Fin 8) (h : Fin 64) (x : Fin 512) :
    iblk m c 1 t (ix4 b 0 h x) = m ((c : Thread nD τ).loc main_arg1) (ix4 b 0 h x) := by
  rw [← V_main_arg1 m c]
  blk_ext [iblk, idx1 t]

/-- The rope queries read. -/
theorem read2 (b : Fin 8) (h : Fin 64) (x : Fin 64) :
    iblk m c 2 t (ix4 b 0 h x) = m ((c : Thread nD τ).loc main_arg2) (ix4 b 0 h x) := by
  rw [← V_main_arg2 m c]
  blk_ext [iblk, idx2 t]

/-- The new latents read. -/
theorem read3 (b : Fin 8) (x : Fin 512) :
    iblk m c 3 t (ix3 b 0 x) = m ((c : Thread nD τ).loc main_arg3) (ix3 b 0 x) := by
  rw [← V_main_arg3 m c]
  blk_ext [iblk, idx3 t]

/-- The new rope keys read. -/
theorem read4 (b : Fin 8) (x : Fin 64) :
    iblk m c 4 t (ix3 b 0 x) = m ((c : Thread nD τ).loc main_arg4) (ix3 b 0 x) := by
  rw [← V_main_arg4 m c]
  blk_ext [iblk, idx4 t]

/-- The codes read: the words read as float8. -/
theorem read5 (b : Fin 8) (k x : Fin 512) :
    iblk m c 5 t (ix3 b k x) = Ideal.ofBits .fp8e4m3 (m ((c : Thread nD τ).loc main_arg5) (ix3 b k x)) := by
  have e : V m c main_v0 = fun i => Ideal.ofBits .fp8e4m3 (m ((c : Thread nD τ).loc main_arg5) i) := by
    entry_read
    rfl
  have r : iblk m c 5 t (ix3 b k x) = V m c main_v0 (ix3 b k x) := by
    blk_ext [iblk, idx5 t]
  rw [r, e]

/-- The scales read. -/
theorem read6 (b : Fin 8) (g : Fin 4) (k : Fin 512) :
    iblk m c 6 t (ix3 b g k) = m ((c : Thread nD τ).loc main_arg6) (ix3 b g k) := by
  rw [← V_main_arg6 m c]
  blk_ext [iblk, idx6 t]

/-- The rope words read. -/
theorem read7 (b : Fin 8) (j : Fin 32) (k : Fin 512) :
    iblk m c 7 t (ix3 b j k) = m ((c : Thread nD τ).loc main_arg7) (ix3 b j k) := by
  rw [← V_main_arg7 m c]
  blk_ext [iblk, idx7 t]

/-- The slot indices read. -/
theorem read8 (b : Fin 8) (k : Fin 512) :
    iblk m c 8 t (ix3 b 0 k) = m ((c : Thread nD τ).loc main_arg8) (ix3 b 0 k) := by
  rw [← V_main_arg8 m c]
  blk_ext [iblk, idx8 t]

/-- The reference's result array after the run. -/
theorem array_eq : (dats m 0 c).arrAt 9 cfg0.N = value m c := by
  refine (dats m 0 c).arrAt_eq_of_covers 9 _ (by decide +kernel) fun t hf y => ?_
  blk_simp
  rw [after0_9]
  frame_out
  idx_vars y
  obtain rfl : y1 = 0 := Subsingleton.elim _ _
  have e : ((View.whole main_v1).slice (win0_9.rect t)).emb (ix4 y0 0 y2 y3) = ix4 y0 0 y2 y3 := by
    blk_ext [idx9 t]
  rw [e, row_apply]
  simp only [dot_apply, dot_new_apply, valid_apply, latents_apply, read0 m c t, read1 m c t, read2 m c t, read3 m c t,
    read4 m c t, read5 m c t, read6 m c t, read7 m c t, read8 m c t]
  rfl

end Cert.ReferenceIdeal.Block

end
-- ==== Proof.Finite.lean ====
/- What the precondition says of each array, and what follows: the new token's score is a real number and no cached
   score is `⊤`, so the two forms of the result are equal. -/
module

public import proofs.«01_k».proof.Defs
public import proofs.«01_k».proof.Proof.Formula
public import Idealize.ShloMosaic.Lib.Pipeline.ValueKit

@[expose] public section

noncomputable section

namespace Cert.Pre_scores_finite

open Cert.Attn Idealize.ShloMosaic Idealize.ShloMosaic.TcCoe
open scoped BigOperators

/-- The side conditions the predicate states about its own shapes. -/
theorem facts : Cert.Pre_scores_finite.Facts := by
  constructor <;> decide +kernel

/-! ## One bit, one pattern -/

/-- Two bits' conjunction is one exactly when both are. -/
theorem and_eq_one (x y : BitVec 1) : IntOp.andi x y = 1#1 ↔ x = 1#1 ∧ y = 1#1 := by
  revert x y; decide

/-- A disjunction with the complement of a bit that is one is the other bit. -/
theorem or_not_eq_one (x y : BitVec 1) (hy : y = 1#1) : IntOp.ori x (~~~y) = 1#1 ↔ x = 1#1 := by
  subst hy; revert x; decide

/-- The pattern of `+∞` is `⊤`. -/
theorem posInf_eq : Ideal.ofBits .f32 0x7F800000#32 = ⊤ := by
  simp [Ideal.ofBits, Ideal.ieee]

/-- The two comparisons with the infinities say the number is real. -/
theorem isReal_of_compare {x : EReal}
    (h : IntOp.andi (BitVec.ofBool (decide (Ideal.ofBits .f32 0xFF800000#32 < x)))
      (BitVec.ofBool (decide (x < Ideal.ofBits .f32 0x7F800000#32))) = 1#1) : IsReal x := by
  rw [and_eq_one, posInf_eq, show Ideal.ofBits .f32 0xFF800000#32 = ⊥ from negInf_eq] at h
  have h1 : ⊥ < x := by by_contra hn; simp [hn] at h
  have h2 : x < ⊤ := by by_contra hn; simp [hn] at h
  exact isReal_of_ne h2.ne h1.ne'

/-- A float8 code that is neither of the two NaN patterns is a real number. -/
theorem isReal_code {w : BitVec 8}
    (h : IntOp.andi (IntOp.cmpi .ne w 127#8) (IntOp.cmpi .ne w 255#8) = 1#1) : IsReal (Ideal.ofBits .fp8e4m3 w) := by
  have hn : ¬((w.extractLsb' 3 4).toNat = 15 ∧ (w.extractLsb' 0 3).toNat = 7) := by
    revert w; decide +kernel
  show IsReal (Ideal.e4m3fn w)
  unfold Ideal.e4m3fn
  dsimp only
  rw [if_neg hn]
  split_ifs <;> exact ⟨_, rfl⟩

/-- A bfloat16 pattern whose exponent is not all ones is a real number. -/
theorem isReal_bf16 {w : BitVec 16} (h : w.extractLsb' 7 8 ≠ 0xFF#8) : IsReal (Ideal.ofBits .bf16 w) := by
  have hn : (w.extractLsb' 7 8).toNat ≠ 2 ^ 8 - 1 := fun e => h (BitVec.eq_of_toNat_eq e)
  show IsReal (Ideal.ieee 8 7 w)
  unfold Ideal.ieee
  dsimp only
  rw [if_neg hn]
  split_ifs <;> exact ⟨_, rfl⟩

/-- The exponents of a word's two halves, out of the word masked. -/
theorem half_exponent {w : BitVec 32} (j : ℕ)
    (h : IntOp.andi (IntOp.cmpi .ne (IntOp.andi w 32640#32) 32640#32)
      (IntOp.cmpi .ne (IntOp.andi w 2139095040#32) 2139095040#32) = 1#1) : (half w j).extractLsb' 7 8 ≠ 0xFF#8 := by
  rw [and_eq_one] at h
  obtain ⟨h1, h2⟩ := h
  have h1' : w &&& 32640#32 ≠ 32640#32 := by
    intro e; simp [IntOp.cmpi, IntOp.andi, e] at h1
  have h2' : w &&& 2139095040#32 ≠ 2139095040#32 := by
    intro e; simp [IntOp.cmpi, IntOp.andi, e] at h2
  intro e
  have hb (i : ℕ) (hi : i < 8) : w.getLsbD (16 * (j % 2) + (7 + i)) = true := by
    have := congrArg (fun v => v.getLsbD i) e
    simp only [half, BitVec.getLsbD_extractLsb', hi, decide_true, Bool.true_and] at this
    rw [show decide (7 + i < 16) = true from decide_eq_true (by omega), Bool.true_and] at this
    rw [this]
    exact (by decide : ∀ i < 8, (255#8).getLsbD i = true) i hi
  rcases Nat.mod_two_eq_zero_or_one j with hj | hj
  · rw [hj] at hb
    apply h1'
    apply BitVec.eq_of_getLsbD_eq
    intro i hi
    rw [BitVec.getLsbD_and]
    by_cases hr : 7 ≤ i ∧ i < 15
    · have := hb (i - 7) (by omega)
      rw [show 16 * 0 + (7 + (i - 7)) = i by omega] at this
      rw [this, Bool.true_and]
    · rw [show (32640#32).getLsbD i = false by revert i; decide, Bool.and_false]
  · rw [hj] at hb
    apply h2'
    apply BitVec.eq_of_getLsbD_eq
    intro i hi
    rw [BitVec.getLsbD_and]
    by_cases hr : 23 ≤ i ∧ i < 31
    · have := hb (i - 23) (by omega)
      rw [show 16 * 1 + (7 + (i - 23)) = i by omega] at this
      rw [this, Bool.true_and]
    · rw [show (2139095040#32).getLsbD i = false by revert i; decide, Bool.and_false]

/-! ## What the precondition says -/

variable [hF : Facts]
variable (a0 : IVec S8 32) (a1 : FVec Ideal S8x1x64x512 .bf16) (a2 : FVec Ideal S8x1x64x64 .bf16) (a3 : FVec Ideal S8x1x512 .bf16)
  (a4 : FVec Ideal S8x1x64 .bf16) (a5 : IVec S8x512x512 8) (a6 : FVec Ideal S8x4x512 .f32) (a7 : IVec S8x32x512 32)
  (a8 : IVec S8x1x512 32)

/-- The queries are real. -/
theorem queries (e : (fn (F := Ideal) a0 a1 a2 a3 a4 a5 a6 a7 a8).1 = fun _ => 1#1) (b : Fin 8) (h : Fin 64) (x : Fin 512) :
    IsReal (a1 (ix4 b 0 h x)) := by
  have e := congrFun e (ix4 b 0 h x)
  pointwise [fn, fn_part1, fn_part2, fn_part3] at e
  exact isReal_of_compare e

/-- The rope queries are real. -/
theorem rope_queries (e : (fn (F := Ideal) a0 a1 a2 a3 a4 a5 a6 a7 a8).2.1 = fun _ => 1#1) (b : Fin 8) (h x : Fin 64) :
    IsReal (a2 (ix4 b 0 h x)) := by
  have e := congrFun e (ix4 b 0 h x)
  pointwise [fn, fn_part1, fn_part2, fn_part3] at e
  exact isReal_of_compare e

/-- The new latents are real. -/
theorem new_latents (e : (fn (F := Ideal) a0 a1 a2 a3 a4 a5 a6 a7 a8).2.2.1 = fun _ => 1#1) (b : Fin 8) (x : Fin 512) :
    IsReal (a3 (ix3 b 0 x)) := by
  have e := congrFun e (ix3 b 0 x)
  pointwise [fn, fn_part1, fn_part2, fn_part3] at e
  exact isReal_of_compare e

/-- The new rope keys are real. -/
theorem new_ropes (e : (fn (F := Ideal) a0 a1 a2 a3 a4 a5 a6 a7 a8).2.2.2.1 = fun _ => 1#1) (b : Fin 8) (x : Fin 64) :
    IsReal (a4 (ix3 b 0 x)) := by
  have e := congrFun e (ix3 b 0 x)
  pointwise [fn, fn_part1, fn_part2, fn_part3] at e
  exact isReal_of_compare e

/-- The codes of a live slot are real. -/
theorem codes_real (e : (fn (F := Ideal) a0 a1 a2 a3 a4 a5 a6 a7 a8).2.2.2.2.1 = fun _ => 1#1) (b : Fin 8) (k x : Fin 512)
    (hv : valid a0 a8 b k = 1#1) : IsReal (Ideal.ofBits .fp8e4m3 (a5 (ix3 b k x))) := by
  have e := congrFun e (ix3 b k x)
  pointwise [fn, fn_part1, fn_part2, fn_part3] at e
  exact isReal_code ((or_not_eq_one _ _ hv).mp e)

/-- The scales of a live slot are real. -/
theorem scales_real (e : (fn (F := Ideal) a0 a1 a2 a3 a4 a5 a6 a7 a8).2.2.2.2.2.1 = fun _ => 1#1) (b : Fin 8) (g : Fin 4)
    (k : Fin 512) (hv : valid a0 a8 b k = 1#1) : IsReal (a6 (ix3 b g k)) := by
  have e := congrFun e (ix3 b g k)
  pointwise [fn, fn_part1, fn_part2, fn_part3] at e
  exact isReal_of_compare ((or_not_eq_one _ _ hv).mp e)

/-- The rope keys of a live slot are real. -/
theorem ropes_real (e : (fn (F := Ideal) a0 a1 a2 a3 a4 a5 a6 a7 a8).2.2.2.2.2.2 = fun _ => 1#1) (b : Fin 8) (k : Fin 512)
    (j : Fin 64) (hv : valid a0 a8 b k = 1#1) : IsReal (ropeAt a7 b k j) := by
  have e := congrFun e (ix3 b ⟨j.val / 2, by omega⟩ k)
  pointwise [fn, fn_part1, fn_part2, fn_part3] at e
  exact isReal_bf16 (half_exponent _ ((or_not_eq_one _ _ hv).mp e))

/-- Under the precondition the two forms of the result are equal. -/
theorem result_eq (e1 : (fn (F := Ideal) a0 a1 a2 a3 a4 a5 a6 a7 a8).1 = fun _ => 1#1)
    (e2 : (fn (F := Ideal) a0 a1 a2 a3 a4 a5 a6 a7 a8).2.1 = fun _ => 1#1)
    (e3 : (fn (F := Ideal) a0 a1 a2 a3 a4 a5 a6 a7 a8).2.2.1 = fun _ => 1#1)
    (e4 : (fn (F := Ideal) a0 a1 a2 a3 a4 a5 a6 a7 a8).2.2.2.1 = fun _ => 1#1)
    (e5 : (fn (F := Ideal) a0 a1 a2 a3 a4 a5 a6 a7 a8).2.2.2.2.1 = fun _ => 1#1)
    (e6 : (fn (F := Ideal) a0 a1 a2 a3 a4 a5 a6 a7 a8).2.2.2.2.2.1 = fun _ => 1#1)
    (e7 : (fn (F := Ideal) a0 a1 a2 a3 a4 a5 a6 a7 a8).2.2.2.2.2.2 = fun _ => 1#1) (b : Fin 8) (h : Fin 64) (c : Fin 512) :
    resultMul a0 a1 a2 a3 a4 a5 a6 a7 a8 b h c = resultDiv a0 a1 a2 a3 a4 a5 a6 a7 a8 b h c := by
  have hf : IsReal (fresh a1 a2 a3 a4 b h) :=
    isReal_score (queries _ _ _ _ _ _ _ _ _ e1 b h) (rope_queries _ _ _ _ _ _ _ _ _ e2 b h)
      (new_latents _ _ _ _ _ _ _ _ _ e3 b) (new_ropes _ _ _ _ _ _ _ _ _ e4 b)
  refine attnMul_eq_attnDiv _ _ (fun k => ?_) hf.ne_top hf.ne_bot
  unfold cached Scalar.select
  by_cases hv : valid a0 a8 b k = 1
  · rw [if_pos hv]
    exact (isReal_score (queries _ _ _ _ _ _ _ _ _ e1 b h) (rope_queries _ _ _ _ _ _ _ _ _ e2 b h)
      (fun x => (codes_real _ _ _ _ _ _ _ _ _ e5 b k x hv).mul (scales_real _ _ _ _ _ _ _ _ _ e6 b _ k hv))
      (fun j => ropes_real _ _ _ _ _ _ _ _ _ e7 b k j hv)).ne_top
  · rw [if_neg hv, negInf_eq]
    exact bot_ne_top

end Cert.Pre_scores_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelArray
public import proofs.«01_k».proof.Proof.ReferenceArray
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- Over the extended reals the kernel and the reference leave the same result array, from the same argument arrays, where
    the precondition holds. -/
theorem algebraic : Cert.algebraic_KernelIdeal_ReferenceIdeal_pre_scores_finite (hKernelIdeal := Cert.KernelIdeal.Gen.facts)
    (hReferenceIdeal := Cert.ReferenceIdeal.Gen.facts) (hPre_scores_finite := Cert.Pre_scores_finite.facts) := by
  letI := Cert.Pre_scores_finite.facts
  intro m g m' g' hpre hargs
  have hK : ∀ c, (Cert.KernelIdeal.Gen.dats m 0 c).arrAt 9 Cert.KernelIdeal.cfg0.N = Cert.KernelIdeal.Block.value m c :=
    fun c => Cert.KernelIdeal.Block.array_eq m c
  have hR : ∀ c, (Cert.ReferenceIdeal.Gen.dats m' 0 c).arrAt 9 Cert.ReferenceIdeal.cfg0.N = Cert.KernelIdeal.Block.value m c := by
    intro c
    rw [Cert.ReferenceIdeal.Block.array_eq m' c]
    obtain ⟨h0, h1, h2, h3, h4, h5, h6, h7, h8⟩ := hargs c
    obtain ⟨e1, e2, e3, e4, e5, e6, e7⟩ := hpre c
    funext i
    unfold Cert.ReferenceIdeal.Block.value Cert.KernelIdeal.Block.value
    rw [h0, h1, h2, h3, h4, h5, h6, h7, h8]
    exact (Cert.Pre_scores_finite.result_eq _ _ _ _ _ _ _ _ _ e1 e2 e3 e4 e5 e6 e7 (i 0) (i 2) (i 3)).symm
  refine ⟨Cert.KernelIdeal.Block.value m, ?_, ?_⟩
  · exact (θ_run _ _ _).mono (fun r h c => ⟨(h c).1.trans (hK c), (h c).2⟩) (Cert.KernelIdeal.Value.run_blocks m g)
  · exact (θ_run _ _ _).mono (fun r h c => ⟨(h c).1.trans (hR c), (h c).2⟩) (Cert.ReferenceIdeal.Value.run_blocks m' g')

/-- Every claim. -/
theorem claim : Cert.Claim :=
  ⟨Cert.Kernel.Gen.facts, Cert.KernelIdeal.Gen.facts, Cert.ReferenceIdeal.Gen.facts, Cert.Pre_scores_finite.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
